-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x256x32x32 : Shape := ⟨4, ![8, 256, 32, 32]⟩
abbrev S512x256 : Shape := ⟨2, ![512, 256]⟩
abbrev S_ : Shape := ⟨0, ![]⟩

class Facts : Prop where
  bcast_S_S8x256x32x32 : S_.BroadcastsInDim S8x256x32x32 (![] : Fin 0 → Fin S8x256x32x32.rank)
  bcast_S_S512x256 : S_.BroadcastsInDim S512x256 (![] : Fin 0 → Fin S512x256.rank)

variable [Facts]

def fn {F : FTy → Type} [FloatOps F] (main_arg0 : FVec F S8x256x32x32 .f32) (main_arg1 : FVec F S512x256 .f32) : IVec S8x256x32x32 1 × IVec S512x256 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  (main_v2, main_v5)
-- ==== Kernel.lean ====
abbrev S8x256x32x32 : Shape := ⟨4, ![8, 256, 32, 32]⟩
abbrev S512x256 : Shape := ⟨2, ![512, 256]⟩
abbrev S8x32x32x256 : Shape := ⟨4, ![8, 32, 32, 256]⟩
abbrev S8192x256 : Shape := ⟨2, ![8192, 256]⟩
abbrev S8x1x1024 : Shape := ⟨3, ![8, 1, 1024]⟩
abbrev S1x1 : Shape := ⟨2, ![1, 1]⟩
abbrev S1024x256 : Shape := ⟨2, ![1024, 256]⟩
abbrev S1x1x1024 : Shape := ⟨3, ![1, 1, 1024]⟩
abbrev S256x512 : Shape := ⟨2, ![256, 512]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S1x512 : Shape := ⟨2, ![1, 512]⟩
abbrev S512x1 : Shape := ⟨2, ![512, 1]⟩
abbrev S512x2 : Shape := ⟨2, ![512, 2]⟩
abbrev S2x1024 : Shape := ⟨2, ![2, 1024]⟩
abbrev S1x1024 : Shape := ⟨2, ![1, 1024]⟩
abbrev S1x1024x1 : Shape := ⟨3, ![1, 1024, 1]⟩
abbrev S1 : Shape := ⟨1, ![1]⟩
abbrev S1x1x1 : Shape := ⟨3, ![1, 1, 1]⟩
abbrev S_ : Shape := ⟨0, ![]⟩
abbrev S8192 : Shape := ⟨1, ![8192]⟩

abbrev nBuf : Space → Nat
  | .hbm => 13
  | .vmem => 7
  | .smem => 1
  | _ => 0

abbrev bufTy : (tb : Table) → Fin (tcTables nBuf tb) → BufTy
  | .hbm, ⟨0, _⟩ => ⟨S8x256x32x32, .f32⟩
  | .hbm, ⟨1, _⟩ => ⟨S512x256, .f32⟩
  | .hbm, ⟨2, _⟩ => ⟨S8x32x32x256, .f32⟩
  | .hbm, ⟨3, _⟩ => ⟨S8192x256, .f32⟩
  | .hbm, ⟨4, _⟩ => ⟨S8192x256, .f32⟩
  | .hbm, ⟨5, _⟩ => ⟨S8x1x1024, .i32⟩
  | .hbm, ⟨6, _⟩ => ⟨S1x1, .f32⟩
  | .hbm, ⟨7, _⟩ => ⟨S8x32x32x256, .f32⟩
  | .hbm, ⟨8, _⟩ => ⟨S8x256x32x32, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192, .i32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S1024x256, .f32⟩
  | .local _ .vmem, ⟨4, _⟩ => ⟨S1024x256, .f32⟩
  | .local _ .vmem, ⟨5, _⟩ => ⟨S1x1x1024, .i32⟩
  | .local _ .vmem, ⟨6, _⟩ => ⟨S1x1x1024, .i32⟩
  | .local _ .smem, ⟨0, _⟩ => ⟨S1x1, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8x256x32x32 : Shape := ⟨4, ![8, 256, 32, 32]⟩
abbrev S512x256 : Shape := ⟨2, ![512, 256]⟩
abbrev S8x32x32x256 : Shape := ⟨4, ![8, 32, 32, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x512 : Shape := ⟨2, ![256, 512]⟩
abbrev S8192x512 : Shape := ⟨2, ![8192, 512]⟩
abbrev S512 : Shape := ⟨1, ![512]⟩
abbrev S1x512 : Shape := ⟨2, ![1, 512]⟩
abbrev S1 : Shape := ⟨1, ![1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S512x256, .f32⟩
  | .hbm, ⟨2, _⟩ => ⟨S8x32x32x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S256x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S512x256, .f32⟩
  | .hbm, ⟨16, _⟩ => ⟨S_, .f32⟩
  | .hbm, ⟨17, _⟩ => ⟨S512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x512, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S1, .i32⟩
  | .hbm, ⟨35, _⟩ => ⟨S_, .i32⟩
  | .hbm, ⟨36, _⟩ => ⟨S8192x1, .i32⟩
  | .hbm, ⟨37, _⟩ => ⟨S8192x1, .i1⟩
  | .hbm, ⟨38, _⟩ => ⟨S1x1, .i32⟩
  | .hbm, ⟨39, _⟩ => ⟨S8192x1, .i32⟩
  | .hbm, ⟨40, _⟩ => ⟨S8192x1, .i1⟩
  | .hbm, ⟨41, _⟩ => ⟨S8192x1, .i1⟩
  | .hbm, ⟨42, _⟩ => ⟨S_, .i1⟩
  | .hbm, ⟨43, _⟩ => ⟨S8192, .i1⟩
  | .hbm, ⟨44, _⟩ => ⟨S8192x256, .f32⟩
  | .hbm, ⟨45, _⟩ => ⟨S8192x256, .i1⟩
  | .hbm, ⟨46, _⟩ => ⟨S_, .f32⟩
  | .hbm, ⟨47, _⟩ => ⟨S8192x256, .f32⟩
  | .hbm, ⟨48, _⟩ => ⟨S8192x256, .f32⟩
  | .hbm, ⟨49, _⟩ => ⟨S8x32x32x256, .f32⟩
  | .hbm, ⟨50, _⟩ => ⟨S8x256x32x32, .f32⟩
  | .hbm, ⟨51, _⟩ => ⟨S8x256x32x32, .f32⟩
  | .hbm, ⟨52, _⟩ => ⟨S8x256x32x32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8x256x32x32, .f32⟩
  | .hbm, ⟨60, _⟩ => ⟨S8x256x32x32, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x256x32x32, .f32⟩
  | .hbm, ⟨66, _⟩ => ⟨S8x256x32x32, .f32⟩
  | .hbm, ⟨67, _⟩ => ⟨S_, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_5 : Ref sig .tc := ⟨.hbm, 61, rfl⟩
abbrev main_v27 : Ref sig .tc := ⟨.hbm, 62, rfl⟩
abbrev main_cst_6 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩

abbrev nD : Nat := 1
abbrev τ : Topo := Topo.v7x

variable {F : FTy → Type} [FloatOps F]
-- ==== Proof.KernelOut.lean ====
/-
  What the kernel body leaves in its three output buffers at one grid point, as values of the point's blocks. The run's
  found pieces are read back: the first two outputs are one covering store each; the third is the scalar running sum,
  set to zero first at point 0.
-/
module

public import proofs.«01_k».proof.Proof.Gen.KernelIdeal.Frame
public import Idealize.ShloMosaic.Lib.Pipeline.Value
public import Idealize.ShloMosaic.Lib.Tactic

@[expose] public section

noncomputable section

namespace Cert.VQ.Ker

open Cert.KernelIdeal Cert.KernelIdeal.Gen
open Idealize.ShloMosaic Idealize.ShloMosaic.TcCoe Idealize.SL.Sem
open Idealize.ShloMosaic.Pipeline (Dat)

variable {F : FTy → Type} [FloatOps F]

/-- Two zero offsets are the zero function, -/
theorem off2 : (![0, 0] : Fin 2 → Nat) = fun _ => 0 := funext fun a => by fin_cases a <;> rfl
/-- and so are three. -/
theorem off3 : (![0, 0, 0] : Fin 3 → Nat) = fun _ => 0 := funext fun a => by fin_cases a <;> rfl

/-- A one-by-one array has one index. -/
theorem one_idx (p q : S1x1.Idx) : p = q := funext fun b => Fin.ext (by
  match b with
  | ⟨0, _⟩ => have h1 := (p 0).isLt; have h2 := (q 0).isLt; show (p 0).val = (q 0).val; change (p 0).val < 1 at h1; change (q 0).val < 1 at h2; omega
  | ⟨1, _⟩ => have h1 := (p 1).isLt; have h2 := (q 1).isLt; show (p 1).val = (q 1).val; change (p 1).val < 1 at h1; change (q 1).val < 1 at h2; omega)

section
variable (c : Dev nD) (i : grid0.Coords) (arg1 : Memref sig .tc .vmem S1024x256 .f32) (harg1 : arg1.IsWhole)
  (arg2 : Memref sig .tc .vmem S512x256 .f32) (harg2 : arg2.IsWhole) (arg3 : Memref sig .tc .vmem S1024x256 .f32)
  (harg3 : arg3.IsWhole) (arg4 : Memref sig .tc .vmem S1x1x1024 .i32) (harg4 : arg4.IsWhole)
  (arg5 : Memref sig .tc .smem S1x1 .f32) (harg5 : arg5.IsWhole) (x : Vec F S1024x256 .f32) (w : Vec F S512x256 .f32)

/-- At point 0 the first output's buffer holds the product of the one-hot rows with the codebook, -/
theorem out2_A (h : cond0_0 i) :
    out0_A_2 c i arg1 harg1 arg2 harg2 arg3 harg3 arg4 harg4 arg5 harg5 h x w = k0_pay7 x w := by
  unfold out0_A_2
  rw [View.read_writes_eq_canon _ _ _ (cover0_A_2 c i arg1 harg1 arg2 harg2 arg3 harg3 arg4 harg4 arg5 harg5 h x w)]
  unfold kernelRun0_A
  dsimp only
  sl_unfold_words
  rw [View.canon_unit_zero off2]
  simp only [View.readAt_eq_ld, harg1.read_unread, harg2.read_unread, View.ld_unit_zero (S := S1024x256) off2,
    View.ld_unit_zero (S := S512x256) off2]

/-- and at every other point too. -/
theorem out2_B (h : ¬cond0_0 i) (a : Vec F S1x1 .f32) :
    out0_B_2 c i arg1 harg1 arg2 harg2 arg3 harg3 arg4 harg4 arg5 harg5 h x w a = k0_pay7 x w := by
  unfold out0_B_2
  rw [View.read_writes_eq_canon _ _ _ (cover0_B_2 c i arg1 harg1 arg2 harg2 arg3 harg3 arg4 harg4 arg5 harg5 h x w a)]
  unfold kernelRun0_B
  dsimp only
  sl_unfold_words
  rw [View.canon_unit_zero off2]
  simp only [View.readAt_eq_ld, harg1.read_unread, harg2.read_unread, View.ld_unit_zero (S := S1024x256) off2,
    View.ld_unit_zero (S := S512x256) off2]

/-- At point 0 the second output's buffer holds the indices decoded from the one-hot rows, -/
theorem out3_A (h : cond0_0 i) :
    out0_A_3 c i arg1 harg1 arg2 harg2 arg3 harg3 arg4 harg4 arg5 harg5 h x w = k0_pay1 (k0_pay5 x w) k0_pay6 := by
  unfold out0_A_3
  rw [View.read_writes_eq_canon _ _ _ (cover0_A_3 c i arg1 harg1 arg2 harg2 arg3 harg3 arg4 harg4 arg5 harg5 h x w)]
  unfold kernelRun0_A
  dsimp only
  sl_unfold_words
  rw [View.canon_unit_zero off3]
  simp only [View.readAt_eq_ld, harg1.read_unread, harg2.read_unread, View.ld_unit_zero (S := S1024x256) off2,
    View.ld_unit_zero (S := S512x256) off2]

/-- and at every other point too. -/
theorem out3_B (h : ¬cond0_0 i) (a : Vec F S1x1 .f32) :
    out0_B_3 c i arg1 harg1 arg2 harg2 arg3 harg3 arg4 harg4 arg5 harg5 h x w a = k0_pay1 (k0_pay5 x w) k0_pay6 := by
  unfold out0_B_3
  rw [View.read_writes_eq_canon _ _ _ (cover0_B_3 c i arg1 harg1 arg2 harg2 arg3 harg3 arg4 harg4 arg5 harg5 h x w a)]
  unfold kernelRun0_B
  dsimp only
  sl_unfold_words
  rw [View.canon_unit_zero off3]
  simp only [View.readAt_eq_ld, harg1.read_unread, harg2.read_unread, View.ld_unit_zero (S := S1024x256) off2,
    View.ld_unit_zero (S := S512x256) off2]

/-- At point 0 the scalar holds zero plus the block's sum of least distances, -/
theorem out4_A (h : cond0_0 i) :
    out0_A_4 c i arg1 harg1 arg2 harg2 arg3 harg3 arg4 harg4 arg5 harg5 h x w
      = fun _ => k0_pay2 (k0_pay4 x w) (Scalar.ofBits .f32 0x00000000#32) := by
  unfold out0_A_4
  rw [View.read_writes_eq_canon _ _ _ (cover0_A_4 c i arg1 harg1 arg2 harg2 arg3 harg3 arg4 harg4 arg5 harg5 h x w)]
  unfold kernelRun0_A
  dsimp only
  sl_unfold_words
  rw [View.canon_cons_unit_zero (S := S1x1) off2]
  simp only [View.readAt_eq_ld, harg1.read_unread, harg2.read_unread, View.ld_unit_zero (S := S1024x256) off2,
    View.ld_unit_zero (S := S512x256) off2]
  rfl

/-- and at every other point what it held plus that sum. -/
theorem out4_B (h : ¬cond0_0 i) (a : Vec F S1x1 .f32) :
    out0_B_4 c i arg1 harg1 arg2 harg2 arg3 harg3 arg4 harg4 arg5 harg5 h x w a
      = fun y => k0_pay2 (k0_pay4 x w) (a y) := by
  unfold out0_B_4
  rw [View.read_writes_eq_canon _ _ _ (cover0_B_4 c i arg1 harg1 arg2 harg2 arg3 harg3 arg4 harg4 arg5 harg5 h x w a)]
  unfold kernelRun0_B
  dsimp only
  sl_unfold_words
  rw [View.canon_unit_zero off2]
  simp only [View.readAt_eq_ld, harg1.read_unread, harg2.read_unread, View.ld_unit_zero (S := S1024x256) off2,
    harg5.read_unread, View.ld_unit_zero (S := S512x256) off2, View.ld_unit_zero (S := S1x1) off2]
  funext y
  exact congrArg (fun q => k0_pay2 (k0_pay4 x w) (a q)) (one_idx _ y)

end

end Cert.VQ.Ker

end
-- ==== Proof.Least.lean ====
/-
  The nearest code of a row, as plain mathematics over the extended reals: the least index at which a row of 512 distances
  is smallest, its value, and the two ways in which the two programs find it. The kernel takes the minimum of the
  distances and then the minimum of the indices at which it is reached; the reference folds a choice between
  (distance, index) pairs that breaks ties toward the lower index.
-/
module

public import Idealize.ShloMosaic.PureOps.Ideal

@[expose] public section

noncomputable section

namespace Cert.VQ

open Idealize.ShloMosaic

/-- The squared distance of the row `x` to code `k`, in the order in which both programs add it up. -/
def dst (x : Fin 256 → EReal) (w : Fin 512 → Fin 256 → EReal) (k : Fin 512) : EReal :=
  ((∑ c, x c * x c) - Ideal.ofBits .f32 0x40000000#32 * ∑ c, x c * w k c) + ∑ c, w k c * w k c

/-- Some index has the smallest distance, and every index before it a greater one. -/
theorem exists_least (d : Fin 512 → EReal) : ∃ k, (∀ j, d k ≤ d j) ∧ ∀ j, j < k → d k < d j := by
  have hne : (Finset.univ.filter fun k => ∀ j, d k ≤ d j).Nonempty := by
    obtain ⟨k, _, hk⟩ := Finset.exists_min_image Finset.univ d Finset.univ_nonempty
    exact ⟨k, Finset.mem_filter.mpr ⟨Finset.mem_univ _, fun j => hk j (Finset.mem_univ _)⟩⟩
  have hmem := Finset.min'_mem _ hne
  refine ⟨_, (Finset.mem_filter.mp hmem).2, fun j hj => lt_of_not_ge fun hle => ?_⟩
  exact absurd (Finset.min'_le _ j (Finset.mem_filter.mpr
    ⟨Finset.mem_univ _, fun i => hle.trans ((Finset.mem_filter.mp hmem).2 i)⟩)) (not_le.mpr hj)

/-- The least index with the smallest distance. -/
def best (d : Fin 512 → EReal) : Fin 512 := (exists_least d).choose

/-- Its distance is smallest. -/
theorem best_le (d : Fin 512 → EReal) (j : Fin 512) : d (best d) ≤ d j := (exists_least d).choose_spec.1 j

/-- Every index before it has a greater distance. -/
theorem best_first (d : Fin 512 → EReal) {j : Fin 512} (h : j < best d) : d (best d) < d j :=
  (exists_least d).choose_spec.2 j h

/-- An index with the smallest distance is not before it. -/
theorem best_min (d : Fin 512 → EReal) {j : Fin 512} (h : d j ≤ d (best d)) : best d ≤ j :=
  not_lt.mp fun hlt => absurd (best_first d hlt) (not_lt.mpr h)

/-- The minimum of the distances, taken from plus infinity on, is the distance at the nearest code. -/
theorem fold_min_eq (d : Fin 512 → EReal) : Finset.univ.fold min ⊤ d = d (best d) :=
  le_antisymm (Finset.fold_min_le _ |>.mpr (.inr ⟨best d, Finset.mem_univ _, le_rfl⟩))
    (Finset.le_fold_min _ |>.mpr ⟨le_top, fun j _ => best_le d j⟩)

/-- The minimum of the indices at which the smallest distance is reached (512 standing at the others) is the nearest
    code. -/
theorem fold_min_index (d : Fin 512 → EReal) :
    Finset.univ.fold min ⊤ (fun k : Fin 512 => if d k = d (best d) then (((k.val : ℝ)) : EReal) else ((512 : ℝ) : EReal))
      = (((best d).val : ℝ) : EReal) := by
  refine le_antisymm (Finset.fold_min_le _ |>.mpr (.inr ⟨best d, Finset.mem_univ _, ?_⟩))
    (Finset.le_fold_min _ |>.mpr ⟨le_top, fun j _ => ?_⟩)
  · rw [if_pos rfl]
  · split
    · next h =>
      exact EReal.coe_le_coe_iff.mpr (by exact_mod_cast Fin.le_def.mp (best_min d h.le))
    · exact EReal.coe_le_coe_iff.mpr (by exact_mod_cast (best d).isLt.le)

/-- Of two (distance, index) pairs, the one with the smaller distance, on a tie the one with the smaller index. -/
def choose (a b : EReal × BitVec 32) : EReal × BitVec 32 :=
  if a.1 < b.1 ∨ (a.1 = b.1 ∧ a.2.slt b.2 = true) then a else b

/-- A pair comes no later than another in the order that `choose` takes. -/
def Before (a b : EReal × BitVec 32) : Prop := a.1 < b.1 ∨ (a.1 = b.1 ∧ a.2.toInt ≤ b.2.toInt)

theorem Before.refl (a : EReal × BitVec 32) : Before a a := .inr ⟨rfl, le_rfl⟩

theorem Before.trans {a b c : EReal × BitVec 32} (h : Before a b) (h' : Before b c) : Before a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The pair chosen is one of the two and comes no later than either. -/
theorem choose_spec (a b : EReal × BitVec 32) :
    (choose a b = a ∨ choose a b = b) ∧ Before (choose a b) a ∧ Before (choose a b) b := by
  unfold choose
  split
  · next h =>
    refine ⟨.inl rfl, .refl a, ?_⟩
    rcases h with h | ⟨h, hi⟩
    · exact .inl h
    · exact .inr ⟨h, by rw [BitVec.slt_iff_toInt_lt] at hi; exact hi.le⟩
  · next h =>
    refine ⟨.inr rfl, ?_, .refl b⟩
    rw [not_or] at h
    rcases lt_or_eq_of_le (not_lt.mp h.1) with h1 | h1
    · exact .inl h1
    · refine .inr ⟨h1, ?_⟩
      have h2 : ¬ a.2.slt b.2 = true := fun h2 => h.2 ⟨h1.symm, h2⟩
      rw [BitVec.slt_iff_toInt_lt] at h2
      exact not_lt.mp h2

/-- Choosing along a list ends at the start or at a member of the list, no later than the start and every member. -/
theorem foldl_choose (l : List (EReal × BitVec 32)) (s : EReal × BitVec 32) :
    (l.foldl choose s = s ∨ l.foldl choose s ∈ l) ∧ Before (l.foldl choose s) s ∧ ∀ q ∈ l, Before (l.foldl choose s) q := by
  induction l generalizing s with
  | nil => exact ⟨.inl rfl, .refl s, fun q hq => absurd hq List.not_mem_nil⟩
  | cons a l ih =>
    obtain ⟨hm, hs, hl⟩ := ih (choose s a)
    obtain ⟨hc, hcs, hca⟩ := choose_spec s a
    rw [List.foldl_cons]
    refine ⟨?_, hs.trans hcs, fun q hq => ?_⟩
    · rcases hm with hm | hm
      · rcases hc with hc | hc
        · exact .inl (hm.trans hc)
        · exact .inr (by rw [hm, hc]; exact List.mem_cons_self)
      · exact .inr (List.mem_cons_of_mem _ hm)
    · rcases List.mem_cons.mp hq with rfl | hq
      · exact hs.trans hca
      · exact hl q hq

/-- A code's index read as a signed word is itself. -/
theorem code_toInt (k : Fin 512) : (BitVec.ofNat 32 k.val).toInt = k.val := by
  have := k.isLt
  rw [BitVec.toInt_ofNat']
  simp only [Int.bmod]
  omega

/-- Choosing along a list that holds every (distance, index) pair of a row and no other, from (plus infinity, 0) on, ends
    with the nearest code's index. -/
theorem foldl_choose_codes (d : Fin 512 → EReal) (l : List (EReal × BitVec 32))
    (hl : ∀ q, q ∈ l ↔ ∃ k : Fin 512, q = (d k, BitVec.ofNat 32 k.val)) :
    (l.foldl choose (⊤, 0#32)).2 = BitVec.ofNat 32 (best d).val := by
  obtain ⟨hm, -, hb⟩ := foldl_choose l (⊤, 0#32)
  have hb := hb _ ((hl _).mpr ⟨best d, rfl⟩)
  generalize l.foldl choose (⊤, 0#32) = p at hm hb
  rcases hm with rfl | hm
  · rcases hb with hb | ⟨hb, -⟩
    · exact absurd hb not_top_lt
    · have h0 : best d ≤ 0 := best_min d (by have hb : (⊤ : EReal) = d (best d) := hb; rw [← hb]; exact le_top)
      have h0 : best d = 0 := le_antisymm h0 (Fin.zero_le _)
      rw [h0]; rfl
  · obtain ⟨k, rfl⟩ := (hl _).mp hm
    rcases hb with hb | ⟨hb, hi⟩
    · exact absurd hb (not_lt.mpr (best_le d k))
    · have hi : (k.val : Int) ≤ (best d).val := by
        have := hi; simp only [code_toInt] at this; exact this
      have : k = best d := le_antisymm (Fin.le_def.mpr (by exact_mod_cast hi)) (best_min d hb.le)
      rw [this]

end Cert.VQ

end
-- ==== Proof.PayValue.lean ====
/-
  What the kernel computes at one grid point, read at an index over the extended reals: the distances of the block's rows
  to the codes, the row minima, the one-hot rows, the looked-up code rows, the index words and the block's sum of minima.
-/
module

public import proofs.«01_k».proof.Proof.Gen.KernelIdeal.Skeleton
public import proofs.«01_k».proof.Proof.Least
public import Idealize.ShloMosaic.Lib.Pointwise

@[expose] public section

set_option maxRecDepth 16384

noncomputable section

namespace Cert.VQ

open Idealize.ShloMosaic

/-- The pattern of plus infinity. -/
theorem top_f32 : Ideal.ofBits .f32 0x7F800000#32 = (⊤ : EReal) := by
  simp [Ideal.ofBits, Ideal.ieee]

/-- The pattern of 512. -/
theorem c512_f32 : Ideal.ofBits .f32 0x44000000#32 = ((512 : ℝ) : EReal) := by
  simp [Ideal.ofBits, Ideal.ieee, -EReal.coe_mul]; norm_num

/-- The pattern of 256. -/
theorem c256_f32 : Ideal.ofBits .f32 0x43800000#32 = ((256 : ℝ) : EReal) := by
  simp [Ideal.ofBits, Ideal.ieee, -EReal.coe_mul]; norm_num

/-- The pattern of 2. -/
theorem c2_f32 : Ideal.ofBits .f32 0x40000000#32 = ((2 : ℝ) : EReal) := by
  simp [Ideal.ofBits, Ideal.ieee, -EReal.coe_mul]; norm_num

/-- The nearest code of row `r` of the rows `x` among the codes `w`. -/
def code {n : ℕ} (x : (⟨2, ![n, 256]⟩ : Shape).Idx → EReal) (w : (⟨2, ![512, 256]⟩ : Shape).Idx → EReal) (r : Fin n) : Fin 512 :=
  best (dst (fun c => x (ix2 r c)) fun k c => w (ix2 k c))

/-- The distance of that row to its nearest code. -/
def least {n : ℕ} (x : (⟨2, ![n, 256]⟩ : Shape).Idx → EReal) (w : (⟨2, ![512, 256]⟩ : Shape).Idx → EReal) (r : Fin n) : EReal :=
  dst (fun c => x (ix2 r c)) (fun k c => w (ix2 k c)) (code x w r)

namespace Ker

open Cert.KernelIdeal Cert.KernelIdeal.Gen

variable (x : Vec Ideal S1024x256 .f32) (w : Vec Ideal S512x256 .f32)

/-- A code's index as a float is the index. -/
theorem code_float (k : Fin 512) : (FloatOps.sitofp .f32 (BitVec.ofNat 32 k.val) : Ideal .f32) = ((k.val : ℝ) : EReal) := by
  show ((((BitVec.ofNat 32 k.val).toInt : ℤ) : ℝ) : EReal) = _
  rw [code_toInt]; norm_cast

/-- The distances, at a row and a code. -/
theorem dists_apply (r : Fin 1024) (k : Fin 512) :
    k0_pay3 (F := Ideal) x w (ix2 r k) = dst (fun c => x (ix2 r c)) (fun k c => w (ix2 k c)) k := by
  pointwise [k0_pay3]
  rfl

/-- The row minima, at a row. -/
theorem minima_apply (r : Fin 1024) : k0_pay4 (F := Ideal) x w (ix2 r 0) = least x w r := by
  pointwise [k0_pay4]
  simp only [dists_apply, top_f32]
  exact fold_min_eq _

/-- The one-hot rows: a row holds one at its nearest code and zero elsewhere. -/
theorem onehot_apply (r : Fin 1024) (k : Fin 512) :
    k0_pay5 (F := Ideal) x w (ix2 r k) = if k = code x w r then 1 else 0 := by
  pointwise [k0_pay5]
  simp only [dists_apply, minima_apply, code_float, top_f32, c512_f32]
  have h := fold_min_index (dst (fun c => x (ix2 r c)) fun k c => w (ix2 k c))
  unfold least code
  rw [h]
  refine if_congr ⟨fun h => Fin.ext ?_, fun h => by rw [h]⟩ rfl rfl
  exact_mod_cast EReal.coe_eq_coe_iff.mp h

/-- The looked-up rows: row `r` is its nearest code's. -/
theorem rows_apply (r : Fin 1024) (c : Fin 256) :
    k0_pay7 (F := Ideal) x w (ix2 r c) = w (ix2 (code x w r) c) := by
  pointwise [k0_pay7]
  simp only [onehot_apply, ite_mul, one_mul, zero_mul, Finset.sum_ite_eq', Finset.mem_univ, if_true]

/-- The two columns of the index table put together again are the index. -/
theorem split_index (k : Fin 512) :
    (IntOp.andi (BitVec.ofNat 32 k.val) 255#32).toInt + 256 * (IntOp.shrsi .vector (BitVec.ofNat 32 k.val) 8#32).toInt
      = k.val := by
  revert k; decide +kernel

/-- A code's index as a float, turned into a word again. -/
theorem index_word (k : Fin 512) : FloatOps.fptosi (F := Ideal) (φ := .f32) 32 ((k.val : ℝ) : EReal) = BitVec.ofNat 32 k.val := by
  have hk := k.isLt
  show BitVec.ofInt 32 (max _ (min _ (if (0 : ℝ) ≤ (k.val : ℝ) then ⌊(k.val : ℝ)⌋ else _))) = _
  rw [if_pos (Nat.cast_nonneg _), Int.floor_natCast]
  rw [min_eq_right (by norm_num; omega), max_eq_right (by norm_num)]
  exact BitVec.ofInt_natCast 32 k.val

/-- The index words: row `r`'s is its nearest code's index. -/
theorem words_apply (r : Fin 1024) :
    k0_pay1 (F := Ideal) (k0_pay5 x w) k0_pay6 (ix3 0 0 r) = BitVec.ofNat 32 (code x w r).val := by
  pointwise [k0_pay1, k0_pay6]
  simp only [onehot_apply, mul_ite, mul_one, mul_zero, Finset.sum_ite_eq', Finset.mem_univ, if_true, c256_f32]
  refine Eq.trans (congrArg _ ?_) (index_word (code x w r))
  show ((((IntOp.andi (BitVec.ofNat 32 (code x w r).val) 255#32).toInt : ℤ) : ℝ) : EReal)
    + ((256 : ℝ) : EReal) * ((((IntOp.shrsi .vector (BitVec.ofNat 32 (code x w r).val) 8#32).toInt : ℤ) : ℝ) : EReal) = _
  rw [← EReal.coe_mul, ← EReal.coe_add]
  congr 1
  exact_mod_cast split_index (code x w r)

/-- The block's sum of minima, added to a running sum. -/
theorem sum_apply (a : EReal) :
    k0_pay2 (F := Ideal) (k0_pay4 x w) a = a + ∑ r, least x w r := by
  pointwise [k0_pay2]
  simp only [minima_apply, Finset.univ_unique, Finset.sum_singleton, Finset.sum_const, Finset.card_singleton, one_smul]

end Ker

end Cert.VQ

end
-- ==== Proof.KernelArrays.lean ====
/-
  The three result arrays of the kernel's grid of eight points, over the extended reals, as functions of the flattened
  rows and the codebook: the looked-up code rows, the index words, and the sum of every row's least distance.
-/
module

public import proofs.«01_k».proof.Proof.KernelOut
public import proofs.«01_k».proof.Proof.PayValue

@[expose] public section

set_option maxRecDepth 16384

noncomputable section

namespace Cert.VQ.Ker

open Cert.KernelIdeal Cert.KernelIdeal.Gen
open Idealize.ShloMosaic Idealize.ShloMosaic.TcCoe Idealize.SL.Sem
open Idealize.ShloMosaic.Pipeline (Dat)

section Points
variable {F : FTy → Type} [FloatOps F]
variable (m : (ℓ : Loc nD τ sig) → Buf (Elt F) ℓ) (c : Dev nD)

/-- What the first output's buffer holds after point `t`. -/
theorem out_rows (t : Fin cfg0.N) : (outsAt0 m c t.val t.isLt).1 = k0_pay7 (iblk m c 0 t) (iblk m c 1 t) := by
  by_cases h0 : t.val % 8 = 0
  · rw [outsAt0_A m c t h0]; dsimp only; rw [out2_A]
  · rw [outsAt0_B m c t h0]; dsimp only; rw [out2_B]

/-- What the second output's buffer holds after point `t`. -/
theorem out_words (t : Fin cfg0.N) :
    (outsAt0 m c t.val t.isLt).2.1 = k0_pay1 (k0_pay5 (iblk m c 0 t) (iblk m c 1 t)) k0_pay6 := by
  by_cases h0 : t.val % 8 = 0
  · rw [outsAt0_A m c t h0]; dsimp only; rw [out3_A]
  · rw [outsAt0_B m c t h0]; dsimp only; rw [out3_B]

/-- What the third output's buffer holds after point 0, -/
theorem out_first (h : 0 < cfg0.N) : (outsAt0 m c 0 h).2.2
    = fun _ => k0_pay2 (k0_pay4 (iblk m c 0 ⟨0, h⟩) (iblk m c 1 ⟨0, h⟩)) (Scalar.ofBits .f32 0x00000000#32) := by
  rw [show outsAt0 m c 0 h = _ from outsAt0_A m c ⟨0, h⟩ rfl]; dsimp only; rw [out4_A]

/-- and after a later one. -/
theorem out_next (n : ℕ) (h : n + 1 < cfg0.N) : (outsAt0 m c (n + 1) h).2.2
    = fun y => k0_pay2 (k0_pay4 (iblk m c 0 ⟨n + 1, h⟩) (iblk m c 1 ⟨n + 1, h⟩)) ((outsAt0 m c n (Nat.lt_of_succ_lt h)).2.2 y) := by
  have hN : cfg0.N = 8 := N_0
  have hB : ¬(⟨n + 1, h⟩ : Fin cfg0.N).val % 8 = 0 := by dsimp only; omega
  rw [show outsAt0 m c (n + 1) h = _ from outsAt0_B m c ⟨n + 1, h⟩ hB]; dsimp only; rw [out4_B]; rfl

end Points

/-- The looked-up rows: each row's nearest code. -/
def rowsRes (x : Vec Ideal S8192x256 .f32) (w : Vec Ideal S512x256 .f32) : Vec Ideal S8192x256 .f32 :=
  fun i => w (ix2 (code x w (i 0)) (i 1))

/-- The index words, by block. -/
def wordsRes (x : Vec Ideal S8192x256 .f32) (w : Vec Ideal S512x256 .f32) : Vec Ideal S8x1x1024 .i32 := fun i =>
  BitVec.ofNat 32 (code x w (⟨1024 * (i 0).val + (i 2).val, by
    have h0 : (i 0).val < 8 := (i 0).isLt
    have h2 : (i 2).val < 1024 := (i 2).isLt
    omega⟩ : Fin 8192)).val

/-- The sum of all least distances. -/
def sumRes (x : Vec Ideal S8192x256 .f32) (w : Vec Ideal S512x256 .f32) : Vec Ideal S1x1 .f32 := fun _ => ∑ n, least x w n

variable (m : (ℓ : Loc nD τ sig) → Buf (Elt Ideal) ℓ) (c : Dev nD)

/-- The flattened rows as the grid finds them. -/
abbrev rows : Vec Ideal S8192x256 .f32 := V m c main_v1
/-- The codebook as the grid finds it. -/
abbrev codes : Vec Ideal S512x256 .f32 := V m c main_arg1

/-- Row `r` of block `t` among all rows. -/
def pos (t : Fin cfg0.N) (r : Fin 1024) : Fin 8192 :=
  ⟨1024 * t.val + r.val, by have h : t.val < 8 := N_0 ▸ t.isLt; omega⟩

/-- Which blocks the windows stand at: the rows' and both blocked results' leading block is the point, every other is 0. -/
theorem index_at (t : Fin grid0.N) : (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0 ∧ win0_3.index t 2 = 0)
    ∧ (win0_4.index t 0 = 0 ∧ win0_4.index t 1 = 0) := by
  rcases fin_N0 t with rfl | rfl | rfl | rfl | rfl | rfl | rfl | rfl <;> decide

/-- The rows' block at point `t`, at an index. -/
theorem block_rows (t : Fin cfg0.N) (r : Fin 1024) (k : Fin 256) :
    (iblk m c 0 t : Vec Ideal S1024x256 .f32) (ix2 r k) = rows m c (ix2 (pos t r) k) := by
  unfold iblk
  rw [View.read_apply]
  show V m c main_v1 _ = V m c main_v1 _
  congr 1
  funext a
  apply Fin.ext
  match a with
  | ⟨0, _⟩ => show win0_0.index t 0 * 1024 + 1 * r.val = 1024 * t.val + r.val; rw [(index_at t).1.1]; omega
  | ⟨1, _⟩ => show win0_0.index t 1 * 256 + 1 * k.val = k.val; rw [(index_at t).1.2]; omega

/-- The codebook's block at any point is the codebook. -/
theorem block_codes (t : Fin cfg0.N) : (iblk m c 1 t : Vec Ideal S512x256 .f32) = codes m c := by
  funext j
  unfold iblk
  rw [View.read_apply]
  show V m c main_arg1 _ = V m c main_arg1 _
  congr 1
  funext a
  apply Fin.ext
  match a with
  | ⟨0, _⟩ => show win0_1.index t 0 * 512 + 1 * (j 0).val = (j 0).val; rw [(index_at t).2.1.1]; omega
  | ⟨1, _⟩ => show win0_1.index t 1 * 256 + 1 * (j 1).val = (j 1).val; rw [(index_at t).2.1.2]; omega

/-- The nearest code of a block's row is that of the row among all rows, -/
theorem code_block (t : Fin cfg0.N) (r : Fin 1024) :
    code (iblk m c 0 t : Vec Ideal S1024x256 .f32) (codes m c) r = code (rows m c) (codes m c) (pos t r) := by
  unfold code; simp only [block_rows]

/-- and so is its distance. -/
theorem least_block (t : Fin cfg0.N) (r : Fin 1024) :
    least (iblk m c 0 t : Vec Ideal S1024x256 .f32) (codes m c) r = least (rows m c) (codes m c) (pos t r) := by
  unfold least; rw [code_block]; simp only [block_rows]

/-- Row `n`'s least distance, zero past the last row. -/
def leastAt (n : ℕ) : EReal := if h : n < 8192 then least (rows m c) (codes m c) ⟨n, h⟩ else 0

/-- A block's sum of least distances, over the places of its rows. -/
theorem block_sum (t : Fin cfg0.N) :
    ∑ r, least (iblk m c 0 t : Vec Ideal S1024x256 .f32) (codes m c) r = ∑ r ∈ Finset.range 1024, leastAt m c (1024 * t.val + r) := by
  rw [← Fin.sum_univ_eq_sum_range fun r => leastAt m c (1024 * t.val + r)]
  refine Finset.sum_congr rfl fun r _ => ?_
  rw [least_block]
  unfold leastAt
  rw [dif_pos (show 1024 * t.val + r.val < 8192 from (pos t r).isLt)]
  rfl

/-- What the third output's buffer holds after point `n`: the sum of the least distances of every row so far. -/
theorem out_sum : ∀ (n : ℕ) (h : n < cfg0.N),
    (outsAt0 m c n h).2.2 = fun _ => ∑ i ∈ Finset.range (1024 * (n + 1)), leastAt m c i
  | 0, h => by
    rw [out_first]
    funext y
    rw [sum_apply, block_codes, block_sum]
    simp only [Nat.mul_zero, Nat.zero_add, Nat.mul_one]
    show Ideal.ofBits .f32 0x00000000#32 + _ = _
    rw [Ideal.ofBits_zero_f32, zero_add]
  | n + 1, h => by
    rw [out_next, out_sum n]
    funext y
    rw [sum_apply, block_codes, block_sum]
    show _ = ∑ i ∈ Finset.range (1024 * (n + 1) + 1024), leastAt m c i
    rw [Finset.sum_range_add]

/-- Each point's write-back of the first result is its block of the looked-up rows. -/
theorem flushed_rows (t : Fin cfg0.N) :
    (dats m 0 c).flushed 2 t = ((cfg0.win 2).blk t).view.read (Elt Ideal) (rowsRes (rows m c) (codes m c)) := by
  show (cfg0.win 2).cut (grid0.coords t) ((dats m 0 c).after 2 t) = _
  rw [after0_2, out_rows, block_codes]
  funext j
  rw [View.read_apply]
  obtain ⟨r, k, rfl⟩ : ∃ (r : Fin 1024) (k : Fin 256), j = ix2 r k := ⟨j 0, j 1, eq_ix2 j⟩
  refine (rows_apply (iblk m c 0 t) (codes m c) r k).trans ?_
  rw [code_block]
  unfold rowsRes
  have h : ((cfg0.win 2).blk t).view.emb (ix2 r k) = (ix2 (pos t r) k : S8192x256.Idx) := funext fun a => Fin.ext (by
    match a with
    | ⟨0, _⟩ => show win0_2.index t 0 * 1024 + 1 * r.val = 1024 * t.val + r.val; rw [(index_at t).2.2.1.1]; omega
    | ⟨1, _⟩ => show win0_2.index t 1 * 256 + 1 * k.val = k.val; rw [(index_at t).2.2.1.2]; omega)
  rw [h]
  rfl

/-- The first result array after the grid. -/
theorem array_rows : (dats m 0 c).arrAt 2 cfg0.N = rowsRes (rows m c) (codes m c) :=
  (dats m 0 c).arrAt_eq_of_cover 2 (rowsRes (rows m c) (codes m c)) (fun t _ => flushed_rows m c t) fun i => by
    have h0 : (i 0 : Nat) < 8192 := (i 0).isLt
    have h1 : (i 1 : Nat) < 256 := (i 1).isLt
    have ht : (i 0 : Nat) / 1024 < cfg0.N := by have : cfg0.N = 8 := N_0; omega
    refine ⟨⟨(i 0 : Nat) / 1024, ht⟩, flush0_2 _, ?_⟩
    show i ∈ ((View.whole main_v2_0).slice (win0_2.rect ⟨(i 0 : Nat) / 1024, ht⟩)).set
    rw [View.set_slice_whole, Rect.mem_set_unit]
    intro a
    obtain ⟨hi0, hi1⟩ := (index_at ⟨(i 0 : Nat) / 1024, ht⟩).2.2.1
    match a with
    | ⟨0, _⟩ =>
      show win0_2.index ⟨(i 0 : Nat) / 1024, ht⟩ 0 * 1024 ≤ (i 0 : Nat)
        ∧ (i 0 : Nat) < win0_2.index ⟨(i 0 : Nat) / 1024, ht⟩ 0 * 1024 + 1024
      rw [hi0]; dsimp only; omega
    | ⟨1, _⟩ =>
      show win0_2.index ⟨(i 0 : Nat) / 1024, ht⟩ 1 * 256 ≤ (i 1 : Nat)
        ∧ (i 1 : Nat) < win0_2.index ⟨(i 0 : Nat) / 1024, ht⟩ 1 * 256 + 256
      rw [hi1]; omega

/-- Each point's write-back of the second result is its block of the index words. -/
theorem flushed_words (t : Fin cfg0.N) :
    (dats m 0 c).flushed 3 t = ((cfg0.win 3).blk t).view.read (Elt Ideal) (wordsRes (rows m c) (codes m c)) := by
  show (cfg0.win 3).cut (grid0.coords t) ((dats m 0 c).after 3 t) = _
  rw [after0_3, out_words, block_codes]
  funext j
  rw [View.read_apply]
  obtain ⟨p, q, r, rfl⟩ : ∃ (p q : Fin 1) (r : Fin 1024), j = ix3 p q r := ⟨j 0, j 1, j 2, eq_ix3 j⟩
  obtain rfl : p = 0 := Subsingleton.elim _ _
  obtain rfl : q = 0 := Subsingleton.elim _ _
  refine (words_apply (iblk m c 0 t) (codes m c) r).trans ?_
  rw [code_block]
  have ht : t.val < 8 := N_0 ▸ t.isLt
  have h : ((cfg0.win 3).blk t).view.emb (ix3 0 0 r) = (ix3 ⟨t.val, ht⟩ 0 r : S8x1x1024.Idx) := funext fun a => Fin.ext (by
    match a with
    | ⟨0, _⟩ => show win0_3.index t 0 * 1 + 1 * 0 = t.val; rw [(index_at t).2.2.2.1.1]; omega
    | ⟨1, _⟩ => show win0_3.index t 1 * 1 + 1 * 0 = 0; rw [(index_at t).2.2.2.1.2.1]
    | ⟨2, _⟩ => show win0_3.index t 2 * 1024 + 1 * r.val = r.val; rw [(index_at t).2.2.2.1.2.2]; omega)
  rw [h]
  rfl

/-- The second result array after the grid. -/
theorem array_words : (dats m 0 c).arrAt 3 cfg0.N = wordsRes (rows m c) (codes m c) :=
  (dats m 0 c).arrAt_eq_of_cover 3 (wordsRes (rows m c) (codes m c)) (fun t _ => flushed_words m c t) fun i => by
    have h0 : (i 0 : Nat) < 8 := (i 0).isLt
    have h1 : (i 1 : Nat) < 1 := (i 1).isLt
    have h2 : (i 2 : Nat) < 1024 := (i 2).isLt
    have ht : (i 0 : Nat) < cfg0.N := by have : cfg0.N = 8 := N_0; omega
    refine ⟨⟨(i 0 : Nat), ht⟩, flush0_3 _, ?_⟩
    show i ∈ ((View.whole main_v2_1).slice (win0_3.rect ⟨(i 0 : Nat), ht⟩)).set
    rw [View.set_slice_whole, Rect.mem_set_unit]
    intro a
    obtain ⟨hi0, hi1, hi2⟩ := (index_at ⟨(i 0 : Nat), ht⟩).2.2.2.1
    match a with
    | ⟨0, _⟩ =>
      show win0_3.index ⟨(i 0 : Nat), ht⟩ 0 * 1 ≤ (i 0 : Nat) ∧ (i 0 : Nat) < win0_3.index ⟨(i 0 : Nat), ht⟩ 0 * 1 + 1
      rw [hi0]; dsimp only; omega
    | ⟨1, _⟩ =>
      show win0_3.index ⟨(i 0 : Nat), ht⟩ 1 * 1 ≤ (i 1 : Nat) ∧ (i 1 : Nat) < win0_3.index ⟨(i 0 : Nat), ht⟩ 1 * 1 + 1
      rw [hi1]; omega
    | ⟨2, _⟩ =>
      show win0_3.index ⟨(i 0 : Nat), ht⟩ 2 * 1024 ≤ (i 2 : Nat) ∧ (i 2 : Nat) < win0_3.index ⟨(i 0 : Nat), ht⟩ 2 * 1024 + 1024
      rw [hi2]; omega

/-- The last point's write-back of the third result is the sum over all rows. -/
theorem flushed_sum (t : Fin cfg0.N) (hf : (cfg0.win 4).flush t = true) :
    (dats m 0 c).flushed 4 t = ((cfg0.win 4).blk t).view.read (Elt Ideal) (sumRes (rows m c) (codes m c)) := by
  have h7 : t.val = 7 := by have := (flush0_4 t).mp hf; have h : t.val < 8 := N_0 ▸ t.isLt; omega
  show (cfg0.win 4).cut (grid0.coords t) ((dats m 0 c).after 4 t) = _
  rw [after0_4, out_sum, h7]
  funext j
  rw [View.read_apply]
  show ∑ i ∈ Finset.range 8192, leastAt m c i = ∑ n, least (rows m c) (codes m c) n
  rw [← Fin.sum_univ_eq_sum_range fun i => leastAt m c i]
  exact Finset.sum_congr rfl fun n _ => dif_pos n.isLt

/-- The third result array after the grid. -/
theorem array_sum : (dats m 0 c).arrAt 4 cfg0.N = sumRes (rows m c) (codes m c) :=
  (dats m 0 c).arrAt_eq_of_cover 4 (sumRes (rows m c) (codes m c)) (flushed_sum m c) fun i => ⟨t0_7, (flush0_4 t0_7).mpr rfl, by
    have h0 : (i 0 : Nat) < 1 := (i 0).isLt
    have h1 : (i 1 : Nat) < 1 := (i 1).isLt
    show i ∈ ((View.whole main_v2_2).slice (win0_4.rect t0_7)).set
    rw [View.set_slice_whole, Rect.mem_set_unit]
    intro a
    obtain ⟨hi0, hi1⟩ := (index_at t0_7).2.2.2.2
    match a with
    | ⟨0, _⟩ =>
      show win0_4.index t0_7 0 * 1 ≤ (i 0 : Nat) ∧ (i 0 : Nat) < win0_4.index t0_7 0 * 1 + 1
      rw [hi0]; omega
    | ⟨1, _⟩ =>
      show win0_4.index t0_7 1 * 1 ≤ (i 1 : Nat) ∧ (i 1 : Nat) < win0_4.index t0_7 1 * 1 + 1
      rw [hi1]; omega⟩

end Cert.VQ.Ker

end
-- ==== Proof.KernelRun.lean ====
/-
  The run of the kernel's program over the extended reals: the host operations after the grid are read, and the three
  results named as functions of the two arguments.
-/
module

public import proofs.«01_k».proof.Proof.KernelArrays
public import Idealize.ShloMosaic.Lib.StableHlo.Run
public import Idealize.ShloMosaic.Lib.Pipeline.FrameSuffix

@[expose] public section

noncomputable section

namespace Cert.VQ.Ker

open Cert.KernelIdeal Cert.KernelIdeal.Gen
open Idealize.ShloMosaic Idealize.ShloMosaic.TcCoe Idealize.ShloMosaic.StableHlo Idealize.SL.Sem

section Tail
variable {F : FTy → Type} [FloatOps F]

/-- The image batch as one row of 256 channels per position. -/
def flat (z : FVec F S8x256x32x32 .f32) : FVec F S8192x256 .f32 :=
  shapeCast S8192x256 (transpose S8x32x32x256 [0, 2, 3, 1] z transposes_S8x256x32x32_S8x32x32x256_0_2_3_1)
    shapeCasts_S8x32x32x256_S8192x256

/-- Rows of channels laid out as an image batch again. -/
def unflat (y : FVec F S8192x256 .f32) : FVec F S8x256x32x32 .f32 :=
  transpose S8x256x32x32 [0, 3, 1, 2] (shapeCast S8x32x32x256 y shapeCasts_S8192x256_S8x32x32x256)
    transposes_S8x32x32x256_S8x256x32x32_0_3_1_2

/-- The loss from the sum. -/
def lossOf (s : FVec F S1x1 .f32) : FVec F S_ .f32 := mulf (shapeCast S_ s shapeCasts_S1x1_S_) (constant S_ .f32 0x35200000#32)

/-- The index words in one row. -/
def wordsOf (v : IVec S8x1x1024 32) : IVec S8192 32 := shapeCast S8192 v shapeCasts_S8x1x1024_S8192

variable (V : Valuation τ sig (Elt F))

/-- Before the grid the rows are flattened. -/
theorem before_grid : after hostOps0 V (main_v1 : DevRef τ sig) = flat (V (main_arg0 : DevRef τ sig)) := by
  after_results
  rfl

/-- After the grid its three result arrays become the program's results. -/
theorem after_grid : after hostOps1 V (main_v4 : DevRef τ sig) = unflat (V (main_v2_0 : DevRef τ sig))
    ∧ after hostOps1 V (main_v7 : DevRef τ sig) = wordsOf (V (main_v2_1 : DevRef τ sig))
    ∧ after hostOps1 V (main_v6 : DevRef τ sig) = lossOf (V (main_v2_2 : DevRef τ sig)) := by
  refine ⟨?_, ?_, ?_⟩
  · after_results
    rfl
  · after_results
    rfl
  · after_results
    rfl

end Tail

variable (m : (ℓ : Loc nD τ sig) → Buf (Elt Ideal) ℓ) (ρ : Dev nD → PrngReg) (c : Dev nD)

/-- The rows that the grid finds are the flattened first argument. -/
theorem rows_eq : rows m c = flat (F := Ideal) (m ((c.tc : Thread nD τ).loc main_arg0)) := before_grid (fun b => m (c, b))

/-- The codebook that it finds is the second argument. -/
theorem codes_eq : codes m c = m ((c.tc : Thread nD τ).loc main_arg1) := V_main_arg1 m c

/-- The program's three results after the host operations that follow the grid. -/
theorem results : Pipeline.afterTail₀ cfgs (dats m) 0 (V0 m) [hostOps1] c main_v4 = unflat (F := Ideal) (rowsRes (rows m c) (codes m c))
    ∧ Pipeline.afterTail₀ cfgs (dats m) 0 (V0 m) [hostOps1] c main_v7 = wordsOf (wordsRes (rows m c) (codes m c))
    ∧ Pipeline.afterTail₀ cfgs (dats m) 0 (V0 m) [hostOps1] c main_v6 = lossOf (F := Ideal) (sumRes (rows m c) (codes m c)) := by
  obtain ⟨h4, h7, h6⟩ := after_grid (F := Ideal)
    (Pipeline.withArrays (cfgs 0).spec c (V0 m c) fun w => (dats m 0 c).arrAt w (cfgs 0).N)
  have e := Pipeline.withArrays_arr spec0 launch0.win.arr_inj c (V0 m c) fun w => (dats m 0 c).arrAt w (cfgs 0).N
  refine ⟨h4.trans (congrArg unflat ((e 2).trans (array_rows m c))), h7.trans (congrArg wordsOf ((e 3).trans (array_words m c))),
    h6.trans (congrArg lossOf ((e 4).trans (array_sum m c)))⟩

/-- The kernel's program runs from any memory with zero counters; its three results end as named, from the arguments'
    launch contents, and the arguments end unchanged. -/
theorem run : θ_run defs (onTc (τ := τ) (main (F := Ideal))) ⟨m, fun _ => 0, ρ⟩ fun r => ∀ c : Dev nD,
    r.2.mem ((c.tc : Thread nD τ).loc main_v4)
        = unflat (F := Ideal) (rowsRes (flat (F := Ideal) (m ((c.tc : Thread nD τ).loc main_arg0))) (m ((c.tc : Thread nD τ).loc main_arg1)))
      ∧ r.2.mem ((c.tc : Thread nD τ).loc main_v7)
        = wordsOf (wordsRes (flat (F := Ideal) (m ((c.tc : Thread nD τ).loc main_arg0))) (m ((c.tc : Thread nD τ).loc main_arg1)))
      ∧ r.2.mem ((c.tc : Thread nD τ).loc main_v6)
        = lossOf (F := Ideal) (sumRes (flat (F := Ideal) (m ((c.tc : Thread nD τ).loc main_arg0))) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨h4, h7, h6⟩ := results m c
      rw [rows_eq, codes_eq] at h4 h7 h6
      exact ⟨((h c).2 main_v4 (Pipeline.mem_restRefs_of main_v4 (by decide) (by decide))).trans h4,
        ((h c).2 main_v7 (Pipeline.mem_restRefs_of main_v7 (by decide) (by decide))).trans h7,
        ((h c).2 main_v6 (Pipeline.mem_restRefs_of main_v6 (by decide) (by decide))).trans h6,
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.VQ.Ker

end
-- ==== Proof.RefRun.lean ====
/-
  The run of the reference program, at any float values. @main is a straight line of host operations once its two outlined
  functions (the arg-min and the row lookup) are opened, so every buffer ends holding the operations' results folded over
  the launch contents. Here that list of operations is written out, shown to be @main, and read at the three result
  buffers and the two argument buffers; the results are named below as functions of the two arguments.
-/
module

public import proofs.«01_k».proof.Proof.Gen.ReferenceIdeal
public import Idealize.ShloMosaic.Lib.StableHlo.Run
public import Idealize.ShloMosaic.Lib.Pipeline.Frame
public import Idealize.ShloMosaic.Lib.Quiescent
public import Idealize.ShloMosaic.PureOps.Ideal

@[expose] public section

noncomputable section

namespace Cert.VQ.Ref

open Cert.ReferenceIdeal Cert.ReferenceIdeal.Gen
open Idealize.ShloMosaic Idealize.ShloMosaic.TcCoe Idealize.ShloMosaic.StableHlo Idealize.SL.Sem Idealize.ShloMosaic.Pipeline

variable {F : FTy → Type} [FloatOps F]

/-- The image batch as one row of 256 channels per position. -/
def flat (z : FVec F S8x256x32x32 .f32) : FVec F S8192x256 .f32 :=
  shapeCast S8192x256 (transpose S8x32x32x256 [0, 2, 3, 1] z transposes_S8x256x32x32_S8x32x32x256_0_2_3_1)
    shapeCasts_S8x32x32x256_S8192x256

/-- The squared distances as the reference spells them, from the flattened rows and the codebook. -/
def dist (x : FVec F S8192x256 .f32) (cb : FVec F S512x256 .f32) : FVec F S8192x512 .f32 :=
  addf
    (subf
      (broadcastInDim S8192x512 ![0, 1] bcast_S8192x1_S8192x512_0_1
        (broadcastInDim S8192x1 ![0] bcast_S8192_S8192x1_0
          (Host.reduceAdd (mulf x x) (constant S_ .f32 0x00000000#32) reducesTo_S8192x256_S8192_d1 h_S_)))
      (mulf (broadcastInDim S8192x512 ![] bcast_S_S8192x512 (constant S_ .f32 0x40000000#32))
        (Host.dotGeneral dot_S8192x256_S256x512_S8192x512_1_0_0_1_n_n none x
          (transpose S256x512 [1, 0] cb transposes_S512x256_S256x512_1_0))))
    (broadcastInDim S8192x512 ![0, 1] bcast_S1x512_S8192x512_0_1
      (broadcastInDim S1x512 ![1] bcast_S512_S1x512_1
        (Host.reduceAdd (mulf cb cb) (constant S_ .f32 0x00000000#32) reducesTo_S512x256_S512_d1 h_S_)))

/-- The second results of an arg-reduction, at any shapes. -/
def argSnd {s t u : Shape} {axes : List (Fin s.rank)} (f : F .f32 × BitVec 32 → F .f32 × BitVec 32 → F .f32 × BitVec 32)
    (x : FVec F s .f32) (y : IVec s 32) (ix : FVec F u .f32) (iy : IVec u 32) (h : s.ReducesTo axes t) (hu : 0 < u.numel) :
    IVec t 32 :=
  fun j => (Host.argReduce (φ := .f32) f x y ix iy h hu j).2

/-- The index half of the reference's arg-min over the codes. -/
def argmin (d : FVec F S8192x512 .f32) : IVec S8192 32 :=
  argSnd reducer_argmin_f32_i32 d (iotaInDim S8192x512 32 1) (constant S_ .f32 0x7F800000#32) (constantI S_ 32 0#32)
    reducesTo_S8192x512_S8192_d1 h_S_

/-- The lookup's indices after its step for negative ones, as a column. -/
def wrapped (idx : IVec S8192 32) : IVec S8192x1 32 :=
  broadcastInDim S8192x1 ![0] bcast_S8192_S8192x1_0
    (select (cmpi .slt idx (broadcastInDim S8192 ![] bcast_S_S8192 (constantI S_ 32 0#32)))
      (addi idx (broadcastInDim S8192 ![] bcast_S_S8192 (constantI S_ 32 512#32))) idx)

/-- Which of the lookup's rows are in range. -/
def inRange (w : IVec S8192x1 32) : IVec S8192 1 :=
  Host.reduce IntOp.andi
    (andi (cmpi .sge w (broadcastInDim S8192x1 ![] bcast_S_S8192x1 (constantI S_ 32 0#32)))
      (cmpi .sle w (broadcastInDim S8192x1 ![0, 1] bcast_S1x1_S8192x1_0_1
        (broadcastInDim S1x1 ![1] bcast_S1_S1x1_1 (constantI S1 32 511#32)))))
    (constantI S_ 1 1#1) reducesTo_S8192x1_S8192_d1 h_S_

/-- The codebook's rows at the given indices, with the fill value where an index is out of range. -/
def take (cb : FVec F S512x256 .f32) (idx : IVec S8192 32) : FVec F S8192x256 .f32 :=
  select (broadcastInDim S8192x256 ![0] bcast_S8192_S8192x256_0 (inRange (wrapped idx)))
    (Host.gather gather_S512x256_S8192x1_S8192x256_1_0_n_n_0_1_1256 cb (wrapped idx))
    (broadcastInDim S8192x256 ![] bcast_S_S8192x256 (constant S_ .f32 0x7FC00000#32))

/-- Rows of channels laid out as an image batch again. -/
def unflat (y : FVec F S8192x256 .f32) : FVec F S8x256x32x32 .f32 :=
  transpose S8x256x32x32 [0, 3, 1, 2] (shapeCast S8x32x32x256 y shapeCasts_S8192x256_S8x32x32x256)
    transposes_S8x32x32x256_S8x256x32x32_0_3_1_2

/-- The mean squared difference of two image batches. -/
def meanSq (q z : FVec F S8x256x32x32 .f32) : FVec F S_ .f32 :=
  Host.divf (Host.reduceAdd (mulf (subf q z) (subf q z)) (constant S_ .f32 0x00000000#32)
    reducesTo_S8x256x32x32_S_d0_1_2_3 h_S_) (constant S_ .f32 0x4A000000#32)

/-- The reference's indices. -/
def idxOut (z : FVec F S8x256x32x32 .f32) (cb : FVec F S512x256 .f32) : IVec S8192 32 := argmin (dist (flat z) cb)

/-- The reference's quantized image batch, before the straight-through step. -/
def quant (z : FVec F S8x256x32x32 .f32) (cb : FVec F S512x256 .f32) : FVec F S8x256x32x32 .f32 :=
  unflat (take cb (idxOut z cb))

/-- The reference's first result: the argument plus the difference. -/
def quantOut (z : FVec F S8x256x32x32 .f32) (cb : FVec F S512x256 .f32) : FVec F S8x256x32x32 .f32 :=
  addf z (subf (quant z cb) z)

/-- The reference's loss. -/
def lossOut (z : FVec F S8x256x32x32 .f32) (cb : FVec F S512x256 .f32) : FVec F S_ .f32 :=
  addf (mulf (constant S_ .f32 0x3E800000#32) (meanSq (quant z cb) z)) (meanSq (quant z cb) z)

/-- The operations up to the distances. -/
abbrev ops₁ : List (HloOp τ sig (Elt F)) :=
  [ unary main_arg0 main_v0 (transpose S8x32x32x256 [0, 2, 3, 1] · transposes_S8x256x32x32_S8x32x32x256_0_2_3_1),
    reshape main_v0 main_v1 rfl shapeCasts_S8x32x32x256_S8192x256,
    binary main_v1 main_v1 main_v2 mulf,
    nullary main_cst (constant S_ .f32 0x00000000#32),
    binary main_v2 main_cst main_v3 (fun x v => Host.reduceAdd x v reducesTo_S8192x256_S8192_d1 h_S_),
    unary main_v3 main_v4 (broadcastInDim S8192x1 ![0] bcast_S8192_S8192x1_0),
    unary main_arg1 main_v5 (transpose S256x512 [1, 0] · transposes_S512x256_S256x512_1_0),
    binary main_v1 main_v5 main_v6 (fun l r => Host.dotGeneral dot_S8192x256_S256x512_S8192x512_1_0_0_1_n_n none l r),
    nullary main_cst_0 (constant S_ .f32 0x40000000#32),
    unary main_cst_0 main_v7 (broadcastInDim S8192x512 ![] bcast_S_S8192x512),
    binary main_v7 main_v6 main_v8 mulf,
    unary main_v4 main_v9 (broadcastInDim S8192x512 ![0, 1] bcast_S8192x1_S8192x512_0_1),
    binary main_v9 main_v8 main_v10 subf,
    binary main_arg1 main_arg1 main_v11 mulf,
    nullary main_cst_1 (constant S_ .f32 0x00000000#32),
    binary main_v11 main_cst_1 main_v12 (fun x v => Host.reduceAdd x v reducesTo_S512x256_S512_d1 h_S_),
    unary main_v12 main_v13 (broadcastInDim S1x512 ![1] bcast_S512_S1x512_1),
    unary main_v13 main_v14 (broadcastInDim S8192x512 ![0, 1] bcast_S1x512_S8192x512_0_1),
    binary main_v10 main_v14 main_v15 addf ]

/-- The arg-min's operations. -/
abbrev ops₂ : List (HloOp τ sig (Elt F)) :=
  [ nullary main_call0_v0 (iotaInDim S8192x512 32 1),
    nullary main_call0_cst (constant S_ .f32 0x7F800000#32),
    nullary main_call0_c (constantI S_ 32 0#32),
    quaternary main_v15 main_call0_v0 main_call0_cst main_call0_c main_call0_v1_0
      (fun x y u v j => (Host.argReduce reducer_argmin_f32_i32 x y u v reducesTo_S8192x512_S8192_d1 h_S_ j).1),
    quaternary main_v15 main_call0_v0 main_call0_cst main_call0_c main_v16
      (fun x y u v j => (Host.argReduce reducer_argmin_f32_i32 x y u v reducesTo_S8192x512_S8192_d1 h_S_ j).2) ]

/-- The row lookup's operations. -/
abbrev ops₃ : List (HloOp τ sig (Elt F)) :=
  [ nullary main_call1_c (constantI S_ 32 0#32),
    unary main_call1_c main_call1_v0 (broadcastInDim S8192 ![] bcast_S_S8192),
    binary main_v16 main_call1_v0 main_call1_v1 (cmpi .slt),
    nullary main_call1_c_0 (constantI S_ 32 512#32),
    unary main_call1_c_0 main_call1_v2 (broadcastInDim S8192 ![] bcast_S_S8192),
    binary main_v16 main_call1_v2 main_call1_v3 addi,
    ternary main_call1_v1 main_call1_v3 main_v16 main_call1_v4 select,
    unary main_call1_v4 main_call1_v5 (broadcastInDim S8192x1 ![0] bcast_S8192_S8192x1_0),
    nullary main_call1_c_1 (constantI S1 32 511#32),
    nullary main_call1_c_2 (constantI S_ 32 0#32),
    unary main_call1_c_2 main_call1_v6 (broadcastInDim S8192x1 ![] bcast_S_S8192x1),
    binary main_call1_v5 main_call1_v6 main_call1_v7 (cmpi .sge),
    unary main_call1_c_1 main_call1_v8 (broadcastInDim S1x1 ![1] bcast_S1_S1x1_1),
    unary main_call1_v8 main_call1_v9 (broadcastInDim S8192x1 ![0, 1] bcast_S1x1_S8192x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12
      (fun x v => Host.reduce IntOp.andi x v reducesTo_S8192x1_S8192_d1 h_S_),
    binary main_arg1 main_call1_v5 main_call1_v13
      (fun x i => Host.gather gather_S512x256_S8192x1_S8192x256_1_0_n_n_0_1_1256 x i),
    unary main_call1_v12 main_call1_v14 (broadcastInDim S8192x256 ![0] bcast_S8192_S8192x256_0),
    nullary main_call1_cst (constant S_ .f32 0x7FC00000#32),
    unary main_call1_cst main_call1_v15 (broadcastInDim S8192x256 ![] bcast_S_S8192x256),
    ternary main_call1_v14 main_call1_v13 main_call1_v15 main_v17 select ]

/-- The operations from the looked-up rows to the results. -/
abbrev ops₄ : List (HloOp τ sig (Elt F)) :=
  [ reshape main_v17 main_v18 rfl shapeCasts_S8192x256_S8x32x32x256,
    unary main_v18 main_v19 (transpose S8x256x32x32 [0, 3, 1, 2] · transposes_S8x32x32x256_S8x256x32x32_0_3_1_2),
    binary main_v19 main_arg0 main_v20 subf,
    binary main_v20 main_v20 main_v21 mulf,
    nullary main_cst_2 (constant S_ .f32 0x00000000#32),
    binary main_v21 main_cst_2 main_v22 (fun x v => Host.reduceAdd x v reducesTo_S8x256x32x32_S_d0_1_2_3 h_S_),
    nullary main_cst_3 (constant S_ .f32 0x4A000000#32),
    binary main_v22 main_cst_3 main_v23 Host.divf,
    nullary main_cst_4 (constant S_ .f32 0x3E800000#32),
    binary main_cst_4 main_v23 main_v24 mulf,
    binary main_v19 main_arg0 main_v25 subf,
    binary main_v25 main_v25 main_v26 mulf,
    nullary main_cst_5 (constant S_ .f32 0x00000000#32),
    binary main_v26 main_cst_5 main_v27 (fun x v => Host.reduceAdd x v reducesTo_S8x256x32x32_S_d0_1_2_3 h_S_),
    nullary main_cst_6 (constant S_ .f32 0x4A000000#32),
    binary main_v27 main_cst_6 main_v28 Host.divf,
    binary main_v19 main_arg0 main_v29 subf,
    binary main_arg0 main_v29 main_v30 addf,
    binary main_v24 main_v28 main_v31 addf ]

/-- @main's operations, in order. -/
abbrev ops : List (HloOp τ sig (Elt F)) := ops₁ ++ (ops₂ ++ (ops₃ ++ ops₄))

set_option maxRecDepth 65536 in
/-- @main is that straight line. -/
theorem main_eq (c : Dev nD) : main (F := F) c = seq ops := rfl

/-- No buffer of the program is scoped, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, ops₁, ops₂, ops₃, ops₄, List.cons_append, List.nil_append, List.forall_cons, unary_bufs_sub, binary_bufs_sub,
    nullary_bufs_sub, ternary_bufs_sub, quaternary_bufs_sub, reshape_bufs_sub, List.Forall, and_self]

variable (V : Valuation τ sig (Elt F))

/-- After the first stretch the distances are `dist`'s, and the arguments are what they were. -/
theorem after₁ : after ops₁ V (main_v15 : DevRef τ sig)
      = dist (flat (V (main_arg0 : DevRef τ sig))) (V (main_arg1 : DevRef τ sig))
    ∧ after ops₁ V (main_arg0 : DevRef τ sig) = V (main_arg0 : DevRef τ sig)
    ∧ after ops₁ V (main_arg1 : DevRef τ sig) = V (main_arg1 : DevRef τ sig) := by
  refine ⟨?_, ?_, ?_⟩
  · after_results
    rfl
  · after_results
  · after_results

/-- After the second the indices are the arg-min's. -/
theorem after₂ : after ops₂ V (main_v16 : DevRef τ sig) = argmin (V (main_v15 : DevRef τ sig))
    ∧ after ops₂ V (main_arg0 : DevRef τ sig) = V (main_arg0 : DevRef τ sig)
    ∧ after ops₂ V (main_arg1 : DevRef τ sig) = V (main_arg1 : DevRef τ sig) := by
  refine ⟨?_, ?_, ?_⟩
  · after_results
    rfl
  · after_results
  · after_results

/-- After the third the rows are the lookup's. -/
theorem after₃ : after ops₃ V (main_v17 : DevRef τ sig)
      = take (V (main_arg1 : DevRef τ sig)) (V (main_v16 : DevRef τ sig))
    ∧ after ops₃ V (main_v16 : DevRef τ sig) = V (main_v16 : DevRef τ sig)
    ∧ after ops₃ V (main_arg0 : DevRef τ sig) = V (main_arg0 : DevRef τ sig)
    ∧ after ops₃ V (main_arg1 : DevRef τ sig) = V (main_arg1 : DevRef τ sig) := by
  refine ⟨?_, ?_, ?_, ?_⟩
  · after_results
    rfl
  · after_results
  · after_results
  · after_results

/-- After the last the results are as named, from the rows and the first argument. -/
theorem after₄ : after ops₄ V (main_v30 : DevRef τ sig)
      = addf (V (main_arg0 : DevRef τ sig)) (subf (unflat (V (main_v17 : DevRef τ sig))) (V (main_arg0 : DevRef τ sig)))
    ∧ after ops₄ V (main_v31 : DevRef τ sig)
      = addf (mulf (constant S_ .f32 0x3E800000#32)
          (meanSq (unflat (V (main_v17 : DevRef τ sig))) (V (main_arg0 : DevRef τ sig))))
          (meanSq (unflat (V (main_v17 : DevRef τ sig))) (V (main_arg0 : DevRef τ sig)))
    ∧ after ops₄ V (main_v16 : DevRef τ sig) = V (main_v16 : DevRef τ sig)
    ∧ after ops₄ V (main_arg0 : DevRef τ sig) = V (main_arg0 : DevRef τ sig)
    ∧ after ops₄ V (main_arg1 : DevRef τ sig) = V (main_arg1 : DevRef τ sig) := by
  refine ⟨?_, ?_, ?_, ?_, ?_⟩
  · after_results
    rfl
  · after_results
    rfl
  · after_results
  · after_results
  · after_results

/-- The whole line at the three results and the two arguments. -/
theorem after_ops : after ops V (main_v30 : DevRef τ sig)
      = quantOut (V (main_arg0 : DevRef τ sig)) (V (main_arg1 : DevRef τ sig))
    ∧ after ops V (main_v16 : DevRef τ sig) = idxOut (V (main_arg0 : DevRef τ sig)) (V (main_arg1 : DevRef τ sig))
    ∧ after ops V (main_v31 : DevRef τ sig) = lossOut (V (main_arg0 : DevRef τ sig)) (V (main_arg1 : DevRef τ sig))
    ∧ after ops V (main_arg0 : DevRef τ sig) = V (main_arg0 : DevRef τ sig)
    ∧ after ops V (main_arg1 : DevRef τ sig) = V (main_arg1 : DevRef τ sig) := by
  have e : after ops V = after ops₄ (after ops₃ (after ops₂ (after ops₁ V))) := by
    rw [ops, after_append, after_append, after_append]
  obtain ⟨a1, a2, a3⟩ := after₁ V
  obtain ⟨b1, b2, b3⟩ := after₂ (after ops₁ V)
  obtain ⟨c1, c2, c3, c4⟩ := after₃ (after ops₂ (after ops₁ V))
  obtain ⟨d1, d2, d3, d4, d5⟩ := after₄ (after ops₃ (after ops₂ (after ops₁ V)))
  rw [e, d1, d2, d3, d4, d5, c1, c2, c3, c4, b1, b2, b3, a1, a2, a3]
  exact ⟨rfl, rfl, rfl, rfl, rfl⟩

/-- The reference runs from any memory with zero counters; its three results end at `quantOut`, `idxOut` and `lossOut` of
    the arguments' launch contents, and the arguments end unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v30)
          = quantOut (m ((c.tc : Thread nD τ).loc main_arg0)) (m ((c.tc : Thread nD τ).loc main_arg1))
        ∧ r.2.mem ((c.tc : Thread nD τ).loc main_v16)
          = idxOut (m ((c.tc : Thread nD τ).loc main_arg0)) (m ((c.tc : Thread nD τ).loc main_arg1))
        ∧ r.2.mem ((c.tc : Thread nD τ).loc main_v31)
          = lossOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => by
      obtain ⟨h1, h2, h3, h4, h5⟩ := after_ops (launchContents m c)
      exact ⟨(h c main_v30).trans h1, (h c main_v16).trans h2, (h c main_v31).trans h3, (h c main_arg0).trans h4,
        (h c main_arg1).trans h5⟩)
    (run_seq scopedRefs_eq scopedSems_eq defs main (fun _ => ops) main_eq (fun _ => ops_sub) m ρ)

end Cert.VQ.Ref

end
-- ==== Proof.RefValue.lean ====
/-
  The reference's results read at an index over the extended reals: the distances, the arg-min's index, the looked-up row,
  the mean squared difference.
-/
module

public import proofs.«01_k».proof.Proof.RefRun
public import proofs.«01_k».proof.Proof.PayValue
public import Idealize.ShloMosaic.PureOps.Reduce
public import Idealize.ShloMosaic.Lib.Routing.Ops

@[expose] public section

set_option maxRecDepth 16384

noncomputable section

namespace Cert.VQ.Ref

open Cert.ReferenceIdeal Cert.ReferenceIdeal.Gen
open Idealize.ShloMosaic

/-- The distances, at a row and a code. -/
theorem dist_apply (x : Vec Ideal S8192x256 .f32) (w : Vec Ideal S512x256 .f32) (n : Fin 8192) (k : Fin 512) :
    dist (F := Ideal) x w (ix2 n k) = dst (fun c => x (ix2 n c)) (fun k c => w (ix2 k c)) k := by
  pointwise [dist]
  rfl

/-- The arg-min's step is the choice between two pairs. -/
theorem reducer_eq : reducer_argmin_f32_i32 (F := Ideal) = choose := by
  funext a b
  unfold reducer_argmin_f32_i32 choose
  simp only [Ideal.cmpf_def, Ideal.cmp, ne_eq, not_true_eq_false, decide_false]
  by_cases h1 : a.1 < b.1
  · have hne : a.1 ≠ b.1 := ne_of_lt h1
    simp [h1, hne, IntOp.ori, IntOp.andi, Scalar.select]
  · by_cases h2 : a.1 = b.1
    · cases h3 : a.2.slt b.2 <;>
        simp [h1, h2, h3, IntOp.ori, IntOp.andi, IntOp.cmpi, Scalar.select, Prod.ext_iff]
    · simp [h1, h2, IntOp.ori, IntOp.andi, Scalar.select]

/-- Dropping the codes' axis of an index leaves its row. -/
theorem drop_row (i : S8192x512.Idx) : reducesTo_S8192x512_S8192_d1.drop i = ix1 (i 0) := by
  funext a
  match a with
  | ⟨0, _⟩ => rfl

/-- The pairs that a two-operand reduction folds for the result index `j`: those at the operand's indices over `j`. -/
theorem mem_fiber {s t : Shape} {axes : List (Fin s.rank)} {α β : Type} (x : s.Idx → α) (y : s.Idx → β)
    (h : s.ReducesTo axes t) (j : t.Idx) (q : α × β) :
    q ∈ Host.argReduceFiber x y h j ↔ ∃ i : s.Idx, h.drop i = j ∧ q = (x i, y i) := by
  unfold Host.argReduceFiber
  simp only [List.mem_map, List.mem_filter, List.mem_finRange, true_and, decide_eq_true_eq]
  constructor
  · rintro ⟨p, hp, rfl⟩
    exact ⟨_, hp, rfl⟩
  · rintro ⟨i, hi, rfl⟩
    exact ⟨s.rowMajor i, by rw [Equiv.symm_apply_apply]; exact hi, by rw [Equiv.symm_apply_apply]⟩

/-- An arg-reduction over the extended reals with the choice between pairs, from (plus infinity, 0) on, along a fiber that
    holds a row's (distance, index) pairs: its index is the nearest code's. -/
theorem argReduce_codes {s t u : Shape} {axes : List (Fin s.rank)} (f : Ideal .f32 × BitVec 32 → Ideal .f32 × BitVec 32 → Ideal .f32 × BitVec 32)
    (hf : f = choose) (x : FVec Ideal s .f32) (y : IVec s 32)
    (ix : FVec Ideal u .f32) (iy : IVec u 32) (h : s.ReducesTo axes t) (hu : 0 < u.numel) (j : t.Idx) (d : Fin 512 → EReal)
    (hx : ix (Shape.Idx.first hu) = (⊤ : EReal)) (hy : iy (Shape.Idx.first hu) = 0#32)
    (hm : ∀ q : EReal × BitVec 32, (∃ i : s.Idx, h.drop i = j ∧ q = (x i, y i)) ↔ ∃ k : Fin 512, q = (d k, BitVec.ofNat 32 k.val)) :
    argSnd f x y ix iy h hu j = BitVec.ofNat 32 (best d).val := by
  unfold argSnd
  rw [Ideal.argReduce_eq_reduce2, Host.reduce2_eq_foldl_fiber, hf, hx, hy]
  exact foldl_choose_codes d _ fun q => (mem_fiber x y h j q).trans (hm q)

/-- A row's pairs are its distances with their codes' indices. -/
theorem row_pairs (d : Vec Ideal S8192x512 .f32) (n : Fin 8192) (q : EReal × BitVec 32) :
    (∃ i : S8192x512.Idx, reducesTo_S8192x512_S8192_d1.drop i = ix1 n ∧ q = (d i, iotaInDim S8192x512 32 1 i))
      ↔ ∃ k : Fin 512, q = (d (ix2 n k), BitVec.ofNat 32 k.val) := by
  constructor
  · rintro ⟨i, hi, rfl⟩
    rw [drop_row] at hi
    obtain ⟨r, k, rfl⟩ : ∃ (r : Fin 8192) (k : Fin 512), i = ix2 r k := ⟨i 0, i 1, eq_ix2 i⟩
    obtain rfl : r = n := congrFun hi 0
    exact ⟨k, rfl⟩
  · rintro ⟨k, rfl⟩
    exact ⟨ix2 n k, drop_row _, rfl⟩

/-- The arg-min at a row is the index of the least distance's first place. -/
theorem argmin_apply (d : Vec Ideal S8192x512 .f32) (n : Fin 8192) :
    argmin (F := Ideal) d (ix1 n) = BitVec.ofNat 32 (best fun k => d (ix2 n k)).val := by
  unfold argmin
  exact argReduce_codes _ reducer_eq d _ _ _ reducesTo_S8192x512_S8192_d1 h_S_ (ix1 n) (fun k => d (ix2 n k)) top_f32 rfl
    (row_pairs d n)

/-- The reference's indices: row `n`'s is its nearest code's. -/
theorem idxOut_apply (z : Vec Ideal S8x256x32x32 .f32) (w : Vec Ideal S512x256 .f32) (n : Fin 8192) :
    idxOut (F := Ideal) z w (ix1 n) = BitVec.ofNat 32 (code (flat (F := Ideal) z) w n).val := by
  unfold idxOut
  rw [argmin_apply]
  simp only [dist_apply]
  rfl

/-- A code's index is not negative, -/
theorem wrap_code (k : Fin 512) : Scalar.select (IntOp.cmpi .slt (BitVec.ofNat 32 k.val) 0#32)
    (IntOp.addi (BitVec.ofNat 32 k.val) 512#32) (BitVec.ofNat 32 k.val) = BitVec.ofNat 32 k.val := by
  revert k; decide +kernel

/-- and is in range. -/
theorem range_code (k : Fin 512) : IntOp.andi (IntOp.cmpi .sge (BitVec.ofNat 32 k.val) 0#32)
    (IntOp.cmpi .sle (BitVec.ofNat 32 k.val) 511#32) = 1#1 := by
  revert k; decide +kernel

/-- The lookup at codes' indices is the codes' rows. -/
theorem take_apply (w : Vec Ideal S512x256 .f32) (idx : IVec S8192 32) (k : Fin 8192 → Fin 512)
    (h : ∀ n, idx (ix1 n) = BitVec.ofNat 32 (k n).val) (n : Fin 8192) (c : Fin 256) :
    take (F := Ideal) w idx (ix2 n c) = w (ix2 (k n) c) := by
  have hw : wrapped idx (ix2 n 0) = BitVec.ofNat 32 (k n).val := by
    pointwise [wrapped]
    rw [h, wrap_code]
  have hr : inRange (wrapped idx) (ix1 n) = 1#1 := by
    pointwise [inRange]
    simp only [Finset.univ_unique, Finset.fold_singleton]
    show IntOp.andi (IntOp.andi (IntOp.cmpi .sge (wrapped idx (ix2 n 0)) 0#32) (IntOp.cmpi .sle (wrapped idx (ix2 n 0)) 511#32)) 1#1 = 1#1
    rw [hw, range_code]
    rfl
  pointwise [take]
  rw [hr]
  exact Routing.gather_row gather_S512x256_S8192x1_S8192x256_1_0_n_n_0_1_1256 rfl rfl rfl rfl rfl w (wrapped idx) n c (k n) hw
    (by norm_num)

/-- The mean squared difference. -/
theorem meanSq_apply (q z : Vec Ideal S8x256x32x32 .f32) (j : S_.Idx) : meanSq (F := Ideal) q z j
    = Ideal.div (∑ i, (q i - z i) * (q i - z i)) (Ideal.ofBits .f32 0x4A000000#32) := by
  pointwise [meanSq]
  rw [Ideal.hostReduceAdd_total _ (fun b => b.elim0), zero_add]
  rfl

end Cert.VQ.Ref

end
-- ==== Proof.Match.lean ====
/-
  The kernel's three results are the reference's, over the extended reals and for finite arguments: the looked-up rows, the
  index words, and the loss.
-/
module

public import proofs.«01_k».proof.Proof.KernelRun
public import proofs.«01_k».proof.Proof.RefValue

@[expose] public section

set_option maxRecDepth 16384

noncomputable section

namespace Cert.VQ

open Idealize.ShloMosaic
open Cert.KernelIdeal (S_ S8x256x32x32 S512x256 S8192x256 S8192 S8x1x1024 S1x1)

/-- The pattern of a quarter. -/
theorem quarter_f32 : Ideal.ofBits .f32 0x3E800000#32 = ((1 / 4 : ℝ) : EReal) := by
  simp [Ideal.ofBits, Ideal.ieee, -EReal.coe_mul]; norm_num

/-- The pattern of the image batch's number of elements. -/
theorem numel_f32 : Ideal.ofBits .f32 0x4A000000#32 = ((2097152 : ℝ) : EReal) := by
  simp [Ideal.ofBits, Ideal.ieee, -EReal.coe_mul]; norm_num

/-- The pattern of the kernel's factor: five quarters of one over that number. -/
theorem factor_f32 : Ideal.ofBits .f32 0x35200000#32 = ((5 / 4 / 2097152 : ℝ) : EReal) := by
  simp [Ideal.ofBits, Ideal.ieee, -EReal.coe_mul]; norm_num

/-- A sum of reals among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array that holds neither infinity. -/
def Finite {s : Shape} (x : s.Idx → EReal) : Prop := ∀ i, x i ≠ ⊤ ∧ x i ≠ ⊥

/-- A finite array is an array of reals. -/
theorem Finite.exists_real {s : Shape} {x : s.Idx → EReal} (h : Finite x) : ∃ y : s.Idx → ℝ, x = fun i => (y i : EReal) :=
  ⟨fun i => (x i).toReal, funext fun i => (EReal.coe_toReal (h i).1 (h i).2).symm⟩

/-- The distance of a real row to a real code is the sum of the squared differences. -/
theorem dst_real (x : Fin 256 → ℝ) (w : Fin 512 → Fin 256 → ℝ) (k : Fin 512) :
    dst (fun c => (x c : EReal)) (fun k c => (w k c : EReal)) k = ((∑ c, (w k c - x c) * (w k c - x c) : ℝ) : EReal) := by
  unfold dst
  rw [c2_f32]
  simp only [← EReal.coe_mul, ← coe_sum, ← EReal.coe_sub, ← EReal.coe_add]
  congr 1
  rw [Finset.mul_sum, ← Finset.sum_sub_distrib, ← Finset.sum_add_distrib]
  exact Finset.sum_congr rfl fun c _ => by ring

/-- The row of an index of the image batch, -/
def rowOf (i : S8x256x32x32.Idx) : Fin 8192 := ⟨(i 0).val * 1024 + (i 2).val * 32 + (i 3).val, by
  have h0 : (i 0).val < 8 := (i 0).isLt
  have h2 : (i 2).val < 32 := (i 2).isLt
  have h3 : (i 3).val < 32 := (i 3).isLt
  omega⟩

/-- and the index of a row's channel. -/
def place (n : Fin 8192) (c : Fin 256) : S8x256x32x32.Idx :=
  ix4 (⟨n.val / 1024, by omega⟩ : Fin 8) c (⟨n.val / 32 % 32, by omega⟩ : Fin 32) (⟨n.val % 32, by omega⟩ : Fin 32)

/-- An index of the image batch is its row's place at its channel. -/
theorem place_rowOf (i : S8x256x32x32.Idx) : place (rowOf i) (i 1) = i := by
  have h0 : (i 0).val < 8 := (i 0).isLt
  have h2 : (i 2).val < 32 := (i 2).isLt
  have h3 : (i 3).val < 32 := (i 3).isLt
  funext a
  apply Fin.ext
  match a with
  | ⟨0, _⟩ => show ((i 0).val * 1024 + (i 2).val * 32 + (i 3).val) / 1024 = (i 0).val; omega
  | ⟨1, _⟩ => rfl
  | ⟨2, _⟩ => show ((i 0).val * 1024 + (i 2).val * 32 + (i 3).val) / 32 % 32 = (i 2).val; omega
  | ⟨3, _⟩ => show ((i 0).val * 1024 + (i 2).val * 32 + (i 3).val) % 32 = (i 3).val; omega

/-- The row of a row's place is the row. -/
theorem rowOf_place (n : Fin 8192) (c : Fin 256) : rowOf (place n c) = n := by
  apply Fin.ext
  show n.val / 1024 * 1024 + n.val / 32 % 32 * 32 + n.val % 32 = n.val
  omega

/-- A sum over the image batch is a sum over the rows and their channels. -/
theorem sum_places (g : Fin 8192 → Fin 256 → EReal) : ∑ i : S8x256x32x32.Idx, g (rowOf i) (i 1) = ∑ n, ∑ c, g n c := by
  rw [← Fintype.sum_prod_type' g]
  exact Fintype.sum_equiv
    { toFun := fun i => (rowOf i, i 1), invFun := fun p => place p.1 p.2, left_inv := place_rowOf
      right_inv := fun p => Prod.ext (rowOf_place p.1 p.2) rfl } _ _ fun _ => rfl

variable (z : Vec Ideal S8x256x32x32 .f32) (w : Vec Ideal S512x256 .f32)

/-- The flattened rows, at a row and a channel. -/
theorem flat_apply (n : Fin 8192) (c : Fin 256) : Ref.flat (F := Ideal) z (ix2 n c) = z (place n c) := by
  pointwise [Ref.flat]
  rfl

/-- The rows laid out as an image batch, at an index. -/
theorem unflat_apply (y : Vec Ideal S8192x256 .f32) (i : S8x256x32x32.Idx) : Ref.unflat (F := Ideal) y i = y (ix2 (rowOf i) (i 1)) := by
  pointwise [Ref.unflat]
  rfl

/-- The quantized image batch, at an index: the channel of its row's nearest code. -/
theorem quant_apply (i : S8x256x32x32.Idx) :
    Ref.quant (F := Ideal) z w i = w (ix2 (code (Ref.flat (F := Ideal) z) w (rowOf i)) (i 1)) := by
  unfold Ref.quant
  rw [unflat_apply]
  exact Ref.take_apply w _ _ (Ref.idxOut_apply z w) (rowOf i) (i 1)

/-- The first results agree. -/
theorem quant_eq (hz : Finite z) :
    Ker.unflat (F := Ideal) (Ker.rowsRes (Ker.flat (F := Ideal) z) w) = Ref.quantOut (F := Ideal) z w := by
  funext i
  refine (unflat_apply (Ker.rowsRes (Ref.flat (F := Ideal) z) w) i).trans ?_
  show w (ix2 (code (Ref.flat (F := Ideal) z) w (rowOf i)) (i 1)) = z i + (Ref.quant (F := Ideal) z w i - z i)
  rw [quant_apply, add_comm, ← EReal.coe_toReal (hz i).1 (hz i).2, EReal.sub_add_cancel]

/-- The second results agree. -/
theorem words_eq : Ker.wordsOf (Ker.wordsRes (Ker.flat (F := Ideal) z) w) = Ref.idxOut (F := Ideal) z w := by
  funext i
  obtain ⟨n, rfl⟩ : ∃ n : Fin 8192, i = ix1 n := ⟨i 0, eq_ix1 i⟩
  rw [Ref.idxOut_apply]
  pointwise [Ker.wordsOf]
  unfold Ker.wordsRes
  congr 3
  apply Fin.ext
  show 1024 * (n.val / 1024) + n.val % 1024 = n.val
  omega

/-- The sum of the least distances and the sum of the squared differences are one real number. -/
theorem sums_eq (hz : Finite z) (hw : Finite w) : ∃ r : ℝ, ∑ n, least (Ref.flat (F := Ideal) z) w n = (r : EReal)
    ∧ ∑ i, (Ref.quant (F := Ideal) z w i - z i) * (Ref.quant (F := Ideal) z w i - z i) = (r : EReal) := by
  obtain ⟨zr, rfl⟩ := hz.exists_real
  obtain ⟨wr, rfl⟩ := hw.exists_real
  generalize hk : code (Ref.flat (F := Ideal) fun i => (zr i : EReal)) (fun i => (wr i : EReal)) = k
  refine ⟨∑ n, ∑ c, (wr (ix2 (k n) c) - zr (place n c)) * (wr (ix2 (k n) c) - zr (place n c)), ?_, ?_⟩
  · rw [coe_sum]
    refine Finset.sum_congr rfl fun n _ => ?_
    unfold least
    simp only [hk, flat_apply]
    exact dst_real (fun c => zr (place n c)) (fun k c => wr (ix2 k c)) (k n)
  · simp only [coe_sum, EReal.coe_mul, EReal.coe_sub]
    rw [← sum_places fun n c => ((wr (ix2 (k n) c) : EReal) - zr (place n c)) * ((wr (ix2 (k n) c) : EReal) - zr (place n c))]
    refine Finset.sum_congr rfl fun i _ => ?_
    rw [quant_apply, hk, place_rowOf]

/-- The third results agree. -/
theorem loss_eq (hz : Finite z) (hw : Finite w) :
    Ker.lossOf (F := Ideal) (Ker.sumRes (Ker.flat (F := Ideal) z) w) = Ref.lossOut (F := Ideal) z w := by
  obtain ⟨r, h1, h2⟩ := sums_eq z w hz hw
  funext j
  have hk : Ker.lossOf (F := Ideal) (Ker.sumRes (Ker.flat (F := Ideal) z) w) j
      = (∑ n, least (Ref.flat (F := Ideal) z) w n) * Ideal.ofBits .f32 0x35200000#32 := by
    pointwise [Ker.lossOf]
    rfl
  have hr : Ref.lossOut (F := Ideal) z w j = Ideal.ofBits .f32 0x3E800000#32 * Ref.meanSq (F := Ideal) (Ref.quant (F := Ideal) z w) z j
      + Ref.meanSq (F := Ideal) (Ref.quant (F := Ideal) z w) z j := rfl
  rw [hk, hr, Ref.meanSq_apply, h1, h2, quarter_f32, numel_f32, factor_f32, Ideal.div_coe (by norm_num)]
  simp only [← EReal.coe_mul, ← EReal.coe_add]
  congr 1
  ring

end Cert.VQ

end
-- ==== Proof.Pre.lean ====
/-
  The precondition read: where its two arrays are all ones, both arguments hold neither infinity.
-/
module

public import proofs.«01_k».proof.Proof.Gen.Pre_finite_inputs
public import proofs.«01_k».proof.Proof.Match

@[expose] public section

noncomputable section

namespace Cert.VQ

open Idealize.ShloMosaic

/-- An extended real whose absolute value is below the pattern of plus infinity is neither infinity. -/
theorem ne_infinite (a : EReal) (h : FloatOps.cmpf (F := Ideal) (φ := .f32) .olt (max a (-a)) (Ideal.ofBits .f32 0x7F800000#32) = 1#1) :
    a ≠ ⊤ ∧ a ≠ ⊥ := by
  rw [Ideal.cmpf_def, top_f32] at h
  constructor
  · rintro rfl; simp [Ideal.cmp] at h
  · rintro rfl; simp [Ideal.cmp] at h

/-- The precondition's arrays are all ones for finite arguments only. -/
theorem finite_of_pre (z : Vec Ideal Cert.KernelIdeal.S8x256x32x32 .f32) (w : Vec Ideal Cert.KernelIdeal.S512x256 .f32)
    (h1 : (Cert.Pre_finite_inputs.fn (F := Ideal) z w).1 = fun _ => 1#1) (h2 : (Cert.Pre_finite_inputs.fn (F := Ideal) z w).2 = fun _ => 1#1) :
    Finite z ∧ Finite w :=
  ⟨fun i => ne_infinite (z i) (congrFun h1 i), fun i => ne_infinite (w i) (congrFun h2 i)⟩

end Cert.VQ

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem

/-- The reference runs, its arguments end unchanged and every counter ends at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.2.2.1, (h c).2.2.2.2⟩, sem_eq_zero_of_no_sems (by decide) r.2⟩) (Cert.VQ.Ref.run m ρ)

/-- For finite arguments, the kernel's ideal form and the reference end with equal results, all three of them. -/
theorem results_equal : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hargs
  refine ⟨_, _, _, Cert.VQ.Ker.run m g, (θ_run Cert.ReferenceIdeal.defs _ _).mono (fun r h c => ?_) (Cert.VQ.Ref.run m' g')⟩
  obtain ⟨h0, h1, h2, h3, h4⟩ := h c
  obtain ⟨a0, a1⟩ := hargs c
  obtain ⟨hz, hw⟩ := Cert.VQ.finite_of_pre _ _ (hpre c).1 (hpre c).2
  rw [a0, a1] at h0 h1 h2
  exact ⟨h0.trans (Cert.VQ.quant_eq _ _ hz).symm, h1.trans (Cert.VQ.words_eq _ _).symm, h2.trans (Cert.VQ.loss_eq _ _ hz hw).symm, h3, h4⟩

/-- Every claim of the certificate. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, trivial, results_equal⟩

end Cert.Proof

end
